-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regime_is_no_fraction [hPre_regime_is_no_fraction : Cert.Pre_regime_is_no_fraction.Facts] (m : (ℓ : Loc Cert.KernelIdeal.nD Cert.KernelIdeal.τ Cert.KernelIdeal.sig) → Buf (Elt Ideal) ℓ) : Prop :=
  ∀ c : Dev Cert.KernelIdeal.nD,
    (Cert.Pre_regime_is_no_fraction.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regime_is_no_fraction [hPre_regime_is_no_fraction : Cert.Pre_regime_is_no_fraction.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regime_is_no_fraction.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_regime_is_no_fraction [hKernelIdeal : Cert.KernelIdeal.Facts] [hPre_regime_is_no_fraction : Cert.Pre_regime_is_no_fraction.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regime_is_no_fraction m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_regime_is_no_fraction [hReferenceIdeal : Cert.ReferenceIdeal.Facts] [hPre_regime_is_no_fraction : Cert.Pre_regime_is_no_fraction.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regime_is_no_fraction m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_regime_is_no_fraction [hKernelIdeal : Cert.KernelIdeal.Facts] [hReferenceIdeal : Cert.ReferenceIdeal.Facts] [hPre_regime_is_no_fraction : Cert.Pre_regime_is_no_fraction.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regime_is_no_fraction m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_regime_is_no_fraction : Cert.Pre_regime_is_no_fraction.Facts),
    quiescent_Kernel (hKernel := hKernel)
    ∧ quiescent_KernelIdeal (hKernelIdeal := hKernelIdeal)
    ∧ quiescent_KernelIdeal_pre_regime_is_no_fraction (hKernelIdeal := hKernelIdeal) (hPre_regime_is_no_fraction := hPre_regime_is_no_fraction)
    ∧ quiescent_ReferenceIdeal (hReferenceIdeal := hReferenceIdeal)
    ∧ quiescent_ReferenceIdeal_pre_regime_is_no_fraction (hReferenceIdeal := hReferenceIdeal) (hPre_regime_is_no_fraction := hPre_regime_is_no_fraction)
    ∧ preserves_Kernel_KernelIdeal
    ∧ algebraic_KernelIdeal_ReferenceIdeal_pre_regime_is_no_fraction (hKernelIdeal := hKernelIdeal) (hReferenceIdeal := hReferenceIdeal) (hPre_regime_is_no_fraction := hPre_regime_is_no_fraction)
-- ==== Pre_regime_is_no_fraction.lean ====
abbrev S16384x1024 : Shape := ⟨2, ![16384, 1024]⟩
abbrev S1024x2048 : Shape := ⟨2, ![1024, 2048]⟩
abbrev S2048 : Shape := ⟨1, ![2048]⟩
abbrev S2048x2048 : Shape := ⟨2, ![2048, 2048]⟩
abbrev S4x2048x256 : Shape := ⟨3, ![4, 2048, 256]⟩
abbrev S4x256 : Shape := ⟨2, ![4, 256]⟩
abbrev S16384x1 : Shape := ⟨2, ![16384, 1]⟩
abbrev S16384 : Shape := ⟨1, ![16384]⟩
abbrev S_ : Shape := ⟨0, ![]⟩

class Facts : Prop where
  slices_S16384x1024_S16384x1_0_1023 : S16384x1024.Slices ![0, 1023] S16384x1
  shapeCasts_S16384x1_S16384 : S16384x1.ShapeCasts S16384
  bcast_S_S16384 : S_.BroadcastsInDim S16384 (![] : Fin 0 → Fin S16384.rank)

variable [Facts]

def fn {F : FTy → Type} [FloatOps F] (main_arg0 : FVec F S16384x1024 .f32) (main_arg1 : FVec F S1024x2048 .f32) (main_arg2 : FVec F S2048 .f32) (main_arg3 : FVec F S2048x2048 .f32) (main_arg4 : FVec F S2048 .f32) (main_arg5 : FVec F S4x2048x256 .f32) (main_arg6 : FVec F S4x256 .f32) : IVec S16384 1 :=
  let main_v0 : FVec F S16384x1 .f32 := (extractStridedSlice S16384x1 ![0, 1023] · slices_S16384x1024_S16384x1_0_1023) main_arg0
  let main_v1 : FVec F S16384 .f32 := shapeCast S16384 main_v0 shapeCasts_S16384x1_S16384
  let main_cst : FVec F S_ .f32 := constant S_ .f32 0xBF800000#32
  let main_v2 : FVec F S16384 .f32 := broadcastInDim S16384 ![] bcast_S_S16384 main_cst
  let main_v3 : IVec S16384 1 := cmpf .ole main_v1 main_v2
  let main_cst_0 : FVec F S_ .f32 := constant S_ .f32 0x40800000#32
  let main_v4 : FVec F S16384 .f32 := broadcastInDim S16384 ![] bcast_S_S16384 main_cst_0
  let main_v5 : IVec S16384 1 := cmpf .oge main_v1 main_v4
  let main_v6 : IVec S16384 1 := ori main_v3 main_v5
  let main_v7 : FVec F S16384 .f32 := Host.floor main_v1
  let main_v8 : IVec S16384 1 := cmpf .oeq main_v1 main_v7
  let main_v9 : IVec S16384 1 := ori main_v6 main_v8
  main_v9
-- ==== Kernel.lean ====
abbrev S16384x1024 : Shape := ⟨2, ![16384, 1024]⟩
abbrev S1024x2048 : Shape := ⟨2, ![1024, 2048]⟩
abbrev S2048 : Shape := ⟨1, ![2048]⟩
abbrev S2048x2048 : Shape := ⟨2, ![2048, 2048]⟩
abbrev S4x2048x256 : Shape := ⟨3, ![4, 2048, 256]⟩
abbrev S4x256 : Shape := ⟨2, ![4, 256]⟩
abbrev S1x2048 : Shape := ⟨2, ![1, 2048]⟩
abbrev S16384x256 : Shape := ⟨2, ![16384, 256]⟩
abbrev S1024x1024 : Shape := ⟨2, ![1024, 1024]⟩
abbrev S1024x256 : Shape := ⟨2, ![1024, 256]⟩
abbrev S1024x1 : Shape := ⟨2, ![1024, 1]⟩
abbrev S1x2048x256 : Shape := ⟨3, ![1, 2048, 256]⟩
abbrev S2048x256 : Shape := ⟨2, ![2048, 256]⟩
abbrev S1x256 : Shape := ⟨2, ![1, 256]⟩

abbrev nBuf : Space → Nat
  | .hbm => 10
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S4x2048x256, .f32⟩
  | .hbm, ⟨6, _⟩ => ⟨S4x256, .f32⟩
  | .hbm, ⟨7, _⟩ => ⟨S1x2048, .f32⟩
  | .hbm, ⟨8, _⟩ => ⟨S1x2048, .f32⟩
  | .hbm, ⟨9, _⟩ => ⟨S16384x256, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .f32⟩
  | .local _ .vmem, ⟨3, _⟩ => ⟨S1x2048, .f32⟩
  | .local _ .vmem, ⟨4, _⟩ => ⟨S2048x2048, .f32⟩
  | .local _ .vmem, ⟨5, _⟩ => ⟨S1x2048, .f32⟩
  | .local _ .vmem, ⟨6, _⟩ => ⟨S4x2048x256, .f32⟩
  | .local _ .vmem, ⟨7, _⟩ => ⟨S4x256, .f32⟩
  | .local _ .vmem, ⟨8, _⟩ => ⟨S1024x256, .f32⟩
  | .local _ .vmem, ⟨9, _⟩ => ⟨S1024x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x2048x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16384x1024 : Shape := ⟨2, ![16384, 1024]⟩
abbrev S1024x2048 : Shape := ⟨2, ![1024, 2048]⟩
abbrev S2048 : Shape := ⟨1, ![2048]⟩
abbrev S2048x2048 : Shape := ⟨2, ![2048, 2048]⟩
abbrev S4x2048x256 : Shape := ⟨3, ![4, 2048, 256]⟩
abbrev S4x256 : Shape := ⟨2, ![4, 256]⟩
abbrev S16384x1 : Shape := ⟨2, ![16384, 1]⟩
abbrev S16384 : Shape := ⟨1, ![16384]⟩
abbrev S16384x2048 : Shape := ⟨2, ![16384, 2048]⟩
abbrev S1x2048 : Shape := ⟨2, ![1, 2048]⟩
abbrev S_ : Shape := ⟨0, ![]⟩
abbrev S4x256x16384 : Shape := ⟨3, ![4, 256, 16384]⟩
abbrev S4x16384x256 : Shape := ⟨3, ![4, 16384, 256]⟩
abbrev S4x1x256 : Shape := ⟨3, ![4, 1, 256]⟩
abbrev S16384x256 : Shape := ⟨2, ![16384, 256]⟩
abbrev S1x16384x256 : Shape := ⟨3, ![1, 16384, 256]⟩

abbrev nBuf : Space → Nat
  | .hbm => 80
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S4x2048x256, .f32⟩
  | .hbm, ⟨6, _⟩ => ⟨S4x256, .f32⟩
  | .hbm, ⟨7, _⟩ => ⟨S16384x1, .f32⟩
  | .hbm, ⟨8, _⟩ => ⟨S16384, .f32⟩
  | .hbm, ⟨9, _⟩ => ⟨S16384, .i32⟩
  | .hbm, ⟨10, _⟩ => ⟨S16384x2048, .f32⟩
  | .hbm, ⟨11, _⟩ => ⟨S1x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384x2048, .f32⟩
  | .hbm, ⟨23, _⟩ => ⟨S16384x2048, .f32⟩
  | .hbm, ⟨24, _⟩ => ⟨S4x256x16384, .f32⟩
  | .hbm, ⟨25, _⟩ => ⟨S4x16384x256, .f32⟩
  | .hbm, ⟨26, _⟩ => ⟨S4x1x256, .f32⟩
  | .hbm, ⟨27, _⟩ => ⟨S4x16384x256, .f32⟩
  | .hbm, ⟨28, _⟩ => ⟨S4x16384x256, .f32⟩
  | .hbm, ⟨29, _⟩ => ⟨S_, .f32⟩
  | .hbm, ⟨30, _⟩ => ⟨S16384x256, .f32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S16384x1, .i1⟩
  | .hbm, ⟨35, _⟩ => ⟨S1x16384x256, .f32⟩
  | .hbm, ⟨36, _⟩ => ⟨S16384x256, .f32⟩
  | .hbm, ⟨37, _⟩ => ⟨S16384x256, .i1⟩
  | .hbm, ⟨38, _⟩ => ⟨S16384x256, .f32⟩
  | .hbm, ⟨39, _⟩ => ⟨S_, .i32⟩
  | .hbm, ⟨40, _⟩ => ⟨S16384, .i32⟩
  | .hbm, ⟨41, _⟩ => ⟨S16384, .i1⟩
  | .hbm, ⟨42, _⟩ => ⟨S16384x1, .i1⟩
  | .hbm, ⟨43, _⟩ => ⟨S1x16384x256, .f32⟩
  | .hbm, ⟨44, _⟩ => ⟨S16384x256, .f32⟩
  | .hbm, ⟨45, _⟩ => ⟨S16384x256, .i1⟩
  | .hbm, ⟨46, _⟩ => ⟨S16384x256, .f32⟩
  | .hbm, ⟨47, _⟩ => ⟨S_, .i32⟩
  | .hbm, ⟨48, _⟩ => ⟨S16384, .i32⟩
  | .hbm, ⟨49, _⟩ => ⟨S16384, .i1⟩
  | .hbm, ⟨50, _⟩ => ⟨S16384x1, .i1⟩
  | .hbm, ⟨51, _⟩ => ⟨S1x16384x256, .f32⟩
  | .hbm, ⟨52, _⟩ => ⟨S16384x256, .f32⟩
  | .hbm, ⟨53, _⟩ => ⟨S16384x256, .i1⟩
  | .hbm, ⟨54, _⟩ => ⟨S16384x256, .f32⟩
  | .hbm, ⟨55, _⟩ => ⟨S_, .i32⟩
  | .hbm, ⟨56, _⟩ => ⟨S16384, .i32⟩
  | .hbm, ⟨57, _⟩ => ⟨S16384, .i1⟩
  | .hbm, ⟨58, _⟩ => ⟨S16384x1, .i1⟩
  | .hbm, ⟨59, _⟩ => ⟨S1x16384x256, .f32⟩
  | .hbm, ⟨60, _⟩ => ⟨S16384x256, .f32⟩
  | .hbm, ⟨61, _⟩ => ⟨S16384x256, .i1⟩
  | .hbm, ⟨62, _⟩ => ⟨S16384x256, .f32⟩
  | .hbm, ⟨63, _⟩ => ⟨S_, .f32⟩
  | .hbm, ⟨64, _⟩ => ⟨S16384x256, .f32⟩
  | .hbm, ⟨65, _⟩ => ⟨S16384x256, .f32⟩
  | .hbm, ⟨66, _⟩ => ⟨S16384x256, .f32⟩
  | .hbm, ⟨67, _⟩ => ⟨S16384x256, .f32⟩
  | .hbm, ⟨68, _⟩ => ⟨S16384x256, .i1⟩
  | .hbm, ⟨69, _⟩ => ⟨S16384x256, .f32⟩
  | .hbm, ⟨70, _⟩ => ⟨S16384x256, .f32⟩
  | .hbm, ⟨71, _⟩ => ⟨S16384x256, .f32⟩
  | .hbm, ⟨72, _⟩ => ⟨S16384x256, .f32⟩
  | .hbm, ⟨73, _⟩ => ⟨S16384x256, .f32⟩
  | .hbm, ⟨74, _⟩ => ⟨S16384x256, .f32⟩
  | .hbm, ⟨75, _⟩ => ⟨S16384x256, .f32⟩
  | .hbm, ⟨76, _⟩ => ⟨S16384x256, .f32⟩
  | .hbm, ⟨77, _⟩ => ⟨S_, .f32⟩
  | .hbm, ⟨78, _⟩ => ⟨S16384x256, .f32⟩
  | .hbm, ⟨79, _⟩ => ⟨S16384x256, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call1_cst : Ref sig .tc := ⟨.hbm, 21, rfl⟩
abbrev main_call1_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call2_v0 : Ref sig .tc := ⟨.hbm, 37, rfl⟩
abbrev main_v24 : Ref sig .tc := ⟨.hbm, 38, rfl⟩
abbrev main_c_0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call3_v0 : Ref sig .tc := ⟨.hbm, 45, rfl⟩
abbrev main_v30 : Ref sig .tc := ⟨.hbm, 46, rfl⟩
abbrev main_c_1 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call4_v0 : Ref sig .tc := ⟨.hbm, 53, rfl⟩
abbrev main_v36 : Ref sig .tc := ⟨.hbm, 54, rfl⟩
abbrev main_c_2 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call5_v0 : Ref sig .tc := ⟨.hbm, 61, rfl⟩
abbrev main_v42 : Ref sig .tc := ⟨.hbm, 62, rfl⟩
abbrev main_call6_cst : Ref sig .tc := ⟨.hbm, 63, rfl⟩
abbrev main_call6_v0 : Ref sig .tc := ⟨.hbm, 64, rfl⟩
abbrev main_call6_v1 : Ref sig .tc := ⟨.hbm, 65, rfl⟩
abbrev main_call6_v2 : Ref sig .tc := ⟨.hbm, 66, rfl⟩
abbrev main_call6_v3 : Ref sig .tc := ⟨.hbm, 67, rfl⟩
abbrev main_call6_v4 : Ref sig .tc := ⟨.hbm, 68, rfl⟩
abbrev main_call6_v5 : Ref sig .tc := ⟨.hbm, 69, rfl⟩
abbrev main_call6_v6 : Ref sig .tc := ⟨.hbm, 70, rfl⟩
abbrev main_call6_v7 : Ref sig .tc := ⟨.hbm, 71, rfl⟩
abbrev main_call6_v8 : Ref sig .tc := ⟨.hbm, 72, rfl⟩
abbrev main_call6_v9 : Ref sig .tc := ⟨.hbm, 73, rfl⟩
abbrev main_call6_v10 : Ref sig .tc := ⟨.hbm, 74, rfl⟩
abbrev main_call6_v11 : Ref sig .tc := ⟨.hbm, 75, rfl⟩
abbrev main_v43 : Ref sig .tc := ⟨.hbm, 76, rfl⟩
abbrev main_cst_3 : Ref sig .tc := ⟨.hbm, 77, rfl⟩
abbrev main_v44 : Ref sig .tc := ⟨.hbm, 78, rfl⟩
abbrev main_v45 : Ref sig .tc := ⟨.hbm, 79, rfl⟩

abbrev nD : Nat := 1
abbrev τ : Topo := Topo.v7x

variable {F : FTy → Type} [FloatOps F]
-- ==== Proof.HeadSpec.lean ====
module

public import Idealize.ShloMosaic.Lib.IdealHost

/-!
# One entry of the result, over the extended reals

Two layers of weights, biases and `max · 0` on one row of the input, one head of four picked by the row's last
entry, and `log (1 + exp a) + 1` of the picked head's value `a`, written so that no large `exp` is taken.
-/

@[expose] public section

noncomputable section

namespace Alpha

open Idealize.ShloMosaic

/-- One unit of a layer: the inputs' weighted sum plus the unit's bias, or zero where that is negative. -/
def layer {a b : Nat} (v : Fin a → EReal) (w : Fin a → Fin b → EReal) (β : Fin b → EReal) (k : Fin b) : EReal :=
  max (∑ i, v i * w i k + β k) 0

/-- One output of one head: the inputs' weighted sum plus the output's bias. -/
def head {a b : Nat} (v : Fin a → EReal) (w : Fin a → Fin b → EReal) (β : Fin b → EReal) (k : Fin b) : EReal :=
  ∑ i, v i * w i k + β k

/-- The value of the head whose number the regime is; zero where the regime is no head's number. -/
def route (regime : EReal) (a : Fin 4 → EReal) : EReal :=
  if regime = 3 then a 3 else if regime = 2 then a 2 else if regime = 1 then a 1 else if regime = 0 then a 0 else 0

/-- `log (1 + exp a) + 1`, in the form `max a 0 + log (1 + exp (-|a|)) + 1`. -/
def softplusOne (a : EReal) : EReal :=
  max a 0 + Ideal.log1p (Ideal.exp (-max a (-a))) + 1

/-- One entry of the result, from the input's row, the weights and the biases. -/
def alpha {d h e : Nat} (regime : EReal) (x : Fin d → EReal) (W₁ : Fin d → Fin h → EReal) (β₁ : Fin h → EReal)
    (W₂ : Fin h → Fin h → EReal) (β₂ : Fin h → EReal) (Wₕ : Fin 4 → Fin h → Fin e → EReal) (βₕ : Fin 4 → Fin e → EReal)
    (j : Fin e) : EReal :=
  softplusOne (route regime fun k => head (layer (layer x W₁ β₁) W₂ β₂) (Wₕ k) (βₕ k) j)

end Alpha
-- ==== Proof.RegimeWord.lean ====
module

public import proofs.«01_k».proof.Pre_regime_is_no_fraction
public import Idealize.ShloMosaic.Lib.Pipeline.ValueKit
public import Idealize.ShloMosaic.Lib.Pointwise
public import Idealize.ShloMosaic.Lib.Claim

/-!
# A regime that is no fraction between -1 and 4

For such a regime the integer conversion gives a head's number exactly where the regime equals that number.
-/

@[expose] public section

noncomputable section

namespace Alpha

open Idealize.ShloMosaic

/-- The f32 word `0xBF800000` is the extended real minus one. -/
theorem ofBits_neg_one_f32 : Ideal.ofBits .f32 3212836864#32 = ((-1 : ℝ) : EReal) := by
  simp [Ideal.ofBits, Ideal.ieee, -EReal.coe_mul, -EReal.coe_neg]; norm_num

/-- The f32 word `0x40000000` is the extended real two. -/
theorem ofBits_two_f32 : Ideal.ofBits .f32 1073741824#32 = ((2 : ℝ) : EReal) := by
  simp [Ideal.ofBits, Ideal.ieee, -EReal.coe_mul]; norm_num

/-- The f32 word `0x40400000` is the extended real three. -/
theorem ofBits_three_f32 : Ideal.ofBits .f32 1077936128#32 = ((3 : ℝ) : EReal) := by
  simp [Ideal.ofBits, Ideal.ieee, -EReal.coe_mul]; norm_num

/-- The f32 word `0x40800000` is the extended real four. -/
theorem ofBits_four_f32 : Ideal.ofBits .f32 1082130432#32 = ((4 : ℝ) : EReal) := by
  simp [Ideal.ofBits, Ideal.ieee, -EReal.coe_mul]; norm_num

/-- The regime is at most -1, at least 4, or a whole number. -/
def NoFraction (r : EReal) : Prop := r ≤ (-1 : ℝ) ∨ (4 : ℝ) ≤ r ∨ r = Ideal.liftRound Int.floor r

/-- For a regime that is no fraction between -1 and 4, the integer conversion gives head number `k` exactly where the
    regime equals `k`. -/
theorem fptosi_eq_iff {r : EReal} (h : NoFraction r) (k : Nat) (hk : k < 4) :
    Ideal.fptosi 32 r = BitVec.ofNat 32 k ↔ r = ((k : ℝ) : EReal) := by
  have hw : ∀ z : Int, -(2 ^ 31) ≤ z → z ≤ 2 ^ 31 - 1 → (BitVec.ofInt 32 z = BitVec.ofNat 32 k ↔ z = k) := by
    intro z h1 h2
    constructor
    · intro e
      have := congrArg BitVec.toInt e
      rw [BitVec.toInt_ofInt, BitVec.toInt_ofNat'] at this
      simp only [Int.bmod_def] at this
      omega
    · rintro rfl; simp
  unfold Ideal.fptosi
  induction r using EReal.rec with
  | bot =>
    rw [Ideal.toIntClamped_bot, hw _ (by norm_num) (by norm_num)]
    exact ⟨fun e => by norm_num at e; omega, fun e => absurd e (EReal.bot_ne_coe _)⟩
  | top =>
    rw [Ideal.toIntClamped_top, hw _ (by norm_num) (by norm_num)]
    exact ⟨fun e => by norm_num at e; omega, fun e => absurd e (EReal.top_ne_coe _)⟩
  | coe r =>
    rw [NoFraction, Ideal.liftRound_coe, EReal.coe_le_coe_iff, EReal.coe_le_coe_iff, EReal.coe_eq_coe_iff] at h
    rw [Ideal.toIntClamped_coe, hw _ (by norm_num) (by norm_num), EReal.coe_eq_coe_iff]
    norm_num only
    have hk' : (k : ℝ) < 4 := by exact_mod_cast hk
    have hk0 : (0 : ℝ) ≤ k := Nat.cast_nonneg k
    rcases h with h | h | h
    · rw [if_neg (by linarith)]
      have : ⌈r⌉ ≤ -1 := Int.ceil_le.mpr (by exact_mod_cast h)
      exact ⟨fun e => by omega, fun e => by linarith⟩
    · rw [if_pos (by linarith)]
      have : 4 ≤ ⌊r⌋ := Int.le_floor.mpr (by exact_mod_cast h)
      exact ⟨fun e => by omega, fun e => by linarith⟩
    · generalize ⌊r⌋ = z at h
      subst h
      rw [Int.ceil_intCast, ite_self]
      constructor
      · intro e
        have : z = k := by omega
        rw [this, Int.cast_natCast]
      · intro e
        have : z = k := by exact_mod_cast e
        omega

/-- Under the precondition no row's regime is a fraction between -1 and 4. -/
theorem noFraction_of_pre [Cert.Pre_regime_is_no_fraction.Facts] (a0 a1 a2 a3 a4 a5 a6)
    (h : Cert.Pre_regime_is_no_fraction.fn (F := Ideal) a0 a1 a2 a3 a4 a5 a6 = fun _ => 1#1) (i : Fin 16384) :
    NoFraction (a0 (ix2 i 1023)) := by
  have h := congrFun h (ix1 i)
  pointwise [Cert.Pre_regime_is_no_fraction.fn] at h
  rw [ofBits_neg_one_f32, ofBits_four_f32] at h
  have hor : ∀ p q : Bool, IntOp.ori (BitVec.ofBool p) (BitVec.ofBool q) = BitVec.ofBool (p || q) := by decide
  have hone : ∀ p : Bool, BitVec.ofBool p = 1#1 → p = true := by decide
  rw [hor, hor] at h
  replace h := hone _ h
  simpa only [NoFraction, Bool.or_eq_true, decide_eq_true_eq, or_assoc] using h

end Alpha
-- ==== Proof.KernelValue.lean ====
module

public import proofs.«01_k».proof.Proof.Gen.KernelIdeal.Value
public import proofs.«01_k».proof.Proof.HeadSpec
public import proofs.«01_k».proof.Proof.RegimeWord
public import Idealize.ShloMosaic.Lib.Pipeline.ValueKit
public import Idealize.ShloMosaic.Lib.Pointwise
public import Idealize.ShloMosaic.Lib.Claim

/-!
# The kernel's result at an index

Sixteen grid points, each writing its 1024 rows; every entry is `Alpha.alpha` of its row.
-/

@[expose] public section

set_option maxRecDepth 16384

noncomputable section

namespace Cert.KernelIdeal.Rows

open Cert.KernelIdeal Cert.KernelIdeal.Gen Idealize.ShloMosaic Idealize.ShloMosaic.TcCoe Idealize.SL.Sem

/-- What one grid point stores, at row `i` of its block and output `j`. -/
theorem out_at (x0 x1 x2 x3 x4 x5 x6) (i : Fin 1024) (j : Fin 256) :
    out0_7 (F := Ideal) x0 x1 x2 x3 x4 x5 x6 (ix2 i j) =
      Alpha.alpha (x0 (ix2 i 1023)) (fun a => x0 (ix2 i a)) (fun a b => x1 (ix2 a b)) (fun b => x2 (ix2 0 b))
        (fun a b => x3 (ix2 a b)) (fun b => x4 (ix2 0 b)) (fun k a b => x5 (ix3 k a b)) (fun k b => x6 (ix2 k b)) j := by
  frame_out
  pointwise [k0_pay1, k0_pay2, k0_pay3, k0_pay4, k0_pay5]
  rw [Alpha.ofBits_three_f32, Alpha.ofBits_two_f32, zero_sub]
  rfl

/-- Where each grid point's blocks lie: the input's and the result's rows advance with it, the weights stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0, 0] ∧ win0_6.index t = ![0, 0]
    ∧ win0_7.index t = ![t.val, 0] :=
  (by decide +kernel : ∀ t : Fin grid0.N, _)

variable (m : (ℓ : Loc nD τ sig) → Buf (Elt Ideal) ℓ) (c : Dev nD)

/-- The whole result: at row `i`, output `j`, `Alpha.alpha` of the input's row `i`. -/
def result (x : FVec Ideal S16384x1024 .f32) (W₁ : FVec Ideal S1024x2048 .f32) (b₁ : FVec Ideal S2048 .f32)
    (W₂ : FVec Ideal S2048x2048 .f32) (b₂ : FVec Ideal S2048 .f32) (Wₕ : FVec Ideal S4x2048x256 .f32)
    (bₕ : FVec Ideal S4x256 .f32) : FVec Ideal S16384x256 .f32 := fun y =>
  Alpha.alpha (x (ix2 (y 0) 1023)) (fun a => x (ix2 (y 0) a)) (fun a b => W₁ (ix2 a b)) (fun b => b₁ (ix1 b))
    (fun a b => W₂ (ix2 a b)) (fun b => b₂ (ix1 b)) (fun k a b => Wₕ (ix3 k a b)) (fun k b => bₕ (ix2 k b)) (y 1)

/-- Row `i` of a grid point's input block is the input's row that the result block's row `i` lands on. -/
theorem rows_at (t : Fin cfg0.N) (i : Fin 1024) (j : Fin 256) (a : Fin 1024) :
    iblk m c 0 t (ix2 i a) = m (c.tc.loc main_arg0) (ix2 ((win0_7.blk t).view.emb (ix2 i j) 0) a) := by
  blk_ext [iblk, V, idx t]

/-- A grid point's result block spans every column. -/
theorem col_at (t : Fin cfg0.N) (i : Fin 1024) (j : Fin 256) : (win0_7.blk t).view.emb (ix2 i j) 1 = j := by
  apply Fin.ext
  blk_simp [idx t]

/-- The first layer's weights are staged whole. -/
theorem weights1 (t : Fin cfg0.N) : iblk m c 1 t = m (c.tc.loc main_arg1) := by
  blk_ext! [iblk, V, idx t]

/-- The first layer's biases are staged whole. -/
theorem biases1 (t : Fin cfg0.N) (b : Fin 2048) : iblk m c 2 t (ix2 0 b) = m (c.tc.loc main_arg2) (ix1 b) := by
  blk_point [iblk, V, idx t]

/-- The second layer's weights are staged whole. -/
theorem weights2 (t : Fin cfg0.N) : iblk m c 3 t = m (c.tc.loc main_arg3) := by
  blk_ext! [iblk, V, idx t]

/-- The second layer's biases are staged whole. -/
theorem biases2 (t : Fin cfg0.N) (b : Fin 2048) : iblk m c 4 t (ix2 0 b) = m (c.tc.loc main_arg4) (ix1 b) := by
  blk_point [iblk, V, idx t]

/-- The heads' weights are staged whole. -/
theorem weightsH (t : Fin cfg0.N) : iblk m c 5 t = m (c.tc.loc main_arg5) := by
  blk_ext! [iblk, V, idx t]

/-- The heads' biases are staged whole. -/
theorem biasesH (t : Fin cfg0.N) : iblk m c 6 t = m (c.tc.loc main_arg6) := by
  blk_ext! [iblk, V, idx t]

/-- The result array after all grid points is `result` of the arguments. -/
theorem result_eq : (dats m 0 c).arrAt 7 cfg0.N =
    result (m (c.tc.loc main_arg0)) (m (c.tc.loc main_arg1)) (m (c.tc.loc main_arg2)) (m (c.tc.loc main_arg3))
      (m (c.tc.loc main_arg4)) (m (c.tc.loc main_arg5)) (m (c.tc.loc main_arg6)) := by
  refine (dats m 0 c).arrAt_eq_of_covers 7 _ (by decide +kernel) fun t hf y => ?_
  blk_simp
  rw [after0_7]
  idx_vars y
  rw [out_at]
  unfold result
  simp only [rows_at m c t y0 y1, biases1, biases2, weights1, weights2, weightsH, biasesH]
  exact congrArg _ (col_at t y0 y1).symm

end Cert.KernelIdeal.Rows
-- ==== Proof.ReferenceValue.lean ====
module

public import proofs.«01_k».proof.Proof.Gen.ReferenceIdeal.Run
public import proofs.«01_k».proof.Proof.HeadSpec
public import Idealize.ShloMosaic.Lib.Pipeline.ValueKit
public import Idealize.ShloMosaic.Lib.Pointwise
public import Idealize.ShloMosaic.Lib.Claim

/-!
# The reference's result at an index

The reference's one result, cut into its stages, each read at an index.
-/

@[expose] public section

set_option maxRecDepth 16384

noncomputable section

namespace Cert.ReferenceIdeal.Stages

open Cert.ReferenceIdeal Cert.ReferenceIdeal.Gen Idealize.ShloMosaic Idealize.ShloMosaic.TcCoe Idealize.SL.Sem

/-- The first layer on every row. -/
def hidden1 (x : FVec Ideal S16384x1024 .f32) (W : FVec Ideal S1024x2048 .f32) (b : FVec Ideal S2048 .f32) :
    FVec Ideal S16384x2048 .f32 :=
  maximumf (addf (Host.dotGeneral dot_S16384x1024_S1024x2048_S16384x2048_1_0_0_1_n_n none x W)
    (broadcastInDim S16384x2048 ![0, 1] bcast_S1x2048_S16384x2048_0_1 (broadcastInDim S1x2048 ![1] bcast_S2048_S1x2048_1 b)))
    (broadcastInDim S16384x2048 ![] bcast_S_S16384x2048 (constant S_ .f32 0x00000000#32))

/-- The second layer on every row. -/
def hidden2 (h : FVec Ideal S16384x2048 .f32) (W : FVec Ideal S2048x2048 .f32) (b : FVec Ideal S2048 .f32) :
    FVec Ideal S16384x2048 .f32 :=
  maximumf (addf (Host.dotGeneral dot_S16384x2048_S2048x2048_S16384x2048_1_0_0_1_n_n none h W)
    (broadcastInDim S16384x2048 ![0, 1] bcast_S1x2048_S16384x2048_0_1 (broadcastInDim S1x2048 ![1] bcast_S2048_S1x2048_1 b)))
    (broadcastInDim S16384x2048 ![] bcast_S_S16384x2048 (constant S_ .f32 0x00000000#32))

/-- The four heads on every row. -/
def heads (h : FVec Ideal S16384x2048 .f32) (W : FVec Ideal S4x2048x256 .f32) (b : FVec Ideal S4x256 .f32) :
    FVec Ideal S4x16384x256 .f32 :=
  addf (transpose S4x16384x256 [0, 2, 1] (Host.dotGeneral dot_S4x2048x256_S16384x2048_S4x256x16384_1_1_02_0_n_n none W h)
    transposes_S4x256x16384_S4x16384x256_0_2_1)
    (broadcastInDim S4x16384x256 ![0, 1, 2] bcast_S4x1x256_S4x16384x256_0_1_2 (broadcastInDim S4x1x256 ![0, 2] bcast_S4x256_S4x1x256_0_2 b))

/-- Every row's regime as an integer. -/
def regimes (x : FVec Ideal S16384x1024 .f32) : IVec S16384 32 :=
  fptosi 32 (shapeCast S16384 (extractStridedSlice S16384x1 ![0, 1023] x slices_S16384x1024_S16384x1_0_1023) shapeCasts_S16384x1_S16384)

/-- The rows of regime `k`, one bit per entry. -/
def isRegime (r : IVec S16384 32) (k : BitVec 32) : IVec S16384x256 1 :=
  broadcastInDim S16384x256 ![0, 1] bcast_S16384x1_S16384x256_0_1 (broadcastInDim S16384x1 ![0] bcast_S16384_S16384x1_0
    (cmpi .eq r (broadcastInDim S16384 ![] bcast_S_S16384 (constantI S_ 32 k))))

/-- On every row the head of its regime, zero on a row whose regime is no head's number. -/
def routed (r : IVec S16384 32) (l : FVec Ideal S4x16384x256 .f32) : FVec Ideal S16384x256 .f32 :=
  select (isRegime r 3#32) (shapeCast S16384x256 (extractStridedSlice S1x16384x256 ![3, 0, 0] l slices_S4x16384x256_S1x16384x256_3_0_0) shapeCasts_S1x16384x256_S16384x256)
  (select (isRegime r 2#32) (shapeCast S16384x256 (extractStridedSlice S1x16384x256 ![2, 0, 0] l slices_S4x16384x256_S1x16384x256_2_0_0) shapeCasts_S1x16384x256_S16384x256)
  (select (isRegime r 1#32) (shapeCast S16384x256 (extractStridedSlice S1x16384x256 ![1, 0, 0] l slices_S4x16384x256_S1x16384x256_1_0_0) shapeCasts_S1x16384x256_S16384x256)
  (select (isRegime r 0#32) (shapeCast S16384x256 (extractStridedSlice S1x16384x256 ![0, 0, 0] l slices_S4x16384x256_S1x16384x256_0_0_0) shapeCasts_S1x16384x256_S16384x256)
    (broadcastInDim S16384x256 ![] bcast_S_S16384x256 (constant S_ .f32 0x00000000#32)))))

/-- `log (1 + exp a) + 1` of every entry. -/
def alphas (a : FVec Ideal S16384x256 .f32) : FVec Ideal S16384x256 .f32 :=
  addf (select (cmpf .une (subf a (broadcastInDim S16384x256 ![] bcast_S_S16384x256 (constant S_ .f32 0x00000000#32)))
      (subf a (broadcastInDim S16384x256 ![] bcast_S_S16384x256 (constant S_ .f32 0x00000000#32))))
    (addf a (broadcastInDim S16384x256 ![] bcast_S_S16384x256 (constant S_ .f32 0x00000000#32)))
    (addf (maximumf a (broadcastInDim S16384x256 ![] bcast_S_S16384x256 (constant S_ .f32 0x00000000#32)))
      (Host.log1p (Host.exp (Host.negf (Host.absf
        (subf a (broadcastInDim S16384x256 ![] bcast_S_S16384x256 (constant S_ .f32 0x00000000#32)))))))))
    (broadcastInDim S16384x256 ![] bcast_S_S16384x256 (constant S_ .f32 0x3F800000#32))

variable (m : (ℓ : Loc nD τ sig) → Buf (Elt Ideal) ℓ) (c : Dev nD)

/-- The reference's result is its stages in order. -/
theorem res_eq : Cert.ReferenceIdeal.Value.res_out0 m c =
    alphas (routed (regimes (m (c.tc.loc main_arg0)))
      (heads (hidden2 (hidden1 (m (c.tc.loc main_arg0)) (m (c.tc.loc main_arg1)) (m (c.tc.loc main_arg2)))
        (m (c.tc.loc main_arg3)) (m (c.tc.loc main_arg4))) (m (c.tc.loc main_arg5)) (m (c.tc.loc main_arg6)))) := rfl

/-- The first layer at row `i`, unit `k`. -/
theorem hidden1_at (x W b) (i : Fin 16384) (k : Fin 2048) :
    hidden1 x W b (ix2 i k) = Alpha.layer (fun a => x (ix2 i a)) (fun a b => W (ix2 a b)) (fun b' => b (ix1 b')) k := by
  pointwise [hidden1, Alpha.layer]

/-- The second layer at row `i`, unit `k`. -/
theorem hidden2_at (h W b) (i : Fin 16384) (k : Fin 2048) :
    hidden2 h W b (ix2 i k) = Alpha.layer (fun a => h (ix2 i a)) (fun a b => W (ix2 a b)) (fun b' => b (ix1 b')) k := by
  pointwise [hidden2, Alpha.layer]

/-- Head `k` at row `i`, output `j`. -/
theorem heads_at (h W b) (k : Fin 4) (i : Fin 16384) (j : Fin 256) :
    heads h W b (ix3 k i j) = Alpha.head (fun a => h (ix2 i a)) (fun a b => W (ix3 k a b)) (fun b' => b (ix2 k b')) j := by
  pointwise [heads, Alpha.head]
  simp only [mul_comm]

/-- The integer regime of row `i`: the conversion of the row's last entry. -/
theorem regimes_at (x) (i : Fin 16384) : regimes x (ix1 i) = Ideal.fptosi 32 (x (ix2 i 1023)) := by
  pointwise [regimes]
  rfl

/-- The integer comparison's bit is set exactly where the words are equal. -/
theorem cmpi_eq_iff (a b : BitVec 32) : IntOp.cmpi .eq a b = 1 ↔ a = b := by
  have hone : ∀ p : Bool, BitVec.ofBool p = 1 ↔ p = true := by decide
  rw [IntOp.cmpi, hone, beq_iff_eq]

/-- The picked head at row `i`, output `j`. -/
theorem routed_at (r l) (i : Fin 16384) (j : Fin 256) :
    routed r l (ix2 i j) = if r (ix1 i) = 3#32 then l (ix3 3 i j) else if r (ix1 i) = 2#32 then l (ix3 2 i j)
      else if r (ix1 i) = 1#32 then l (ix3 1 i j) else if r (ix1 i) = 0#32 then l (ix3 0 i j) else (0 : EReal) := by
  pointwise [routed, isRegime]
  simp only [Scalar.select, cmpi_eq_iff]

/-- The last stage at an index. -/
theorem alphas_at (a) (i : Fin 16384) (j : Fin 256) :
    alphas a (ix2 i j) = Alpha.softplusOne (a (ix2 i j)) := by
  pointwise [alphas, Alpha.softplusOne]
  rw [if_neg (not_not.mpr rfl)]
  rfl

end Cert.ReferenceIdeal.Stages
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_regime_is_no_fraction
public import proofs.«01_k».proof.Proof.KernelValue
public import proofs.«01_k».proof.Proof.ReferenceValue
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- Picking the head by the integer regime and by the regime itself agree, where the regime is no fraction between
    -1 and 4. -/
theorem route_eq {r : EReal} (h : Alpha.NoFraction r) (a : Fin 4 → EReal) :
    (if Ideal.fptosi 32 r = 3#32 then a 3 else if Ideal.fptosi 32 r = 2#32 then a 2
      else if Ideal.fptosi 32 r = 1#32 then a 1 else if Ideal.fptosi 32 r = 0#32 then a 0 else 0) = Alpha.route r a := by
  have e3 := Alpha.fptosi_eq_iff h 3 (by decide)
  have e2 := Alpha.fptosi_eq_iff h 2 (by decide)
  have e1 := Alpha.fptosi_eq_iff h 1 (by decide)
  have e0 := Alpha.fptosi_eq_iff h 0 (by decide)
  simp only [Nat.cast_ofNat, Nat.cast_one, Nat.cast_zero, EReal.coe_zero, EReal.coe_one] at e3 e2 e1 e0
  rw [Alpha.route, if_congr e3 rfl rfl, if_congr e2 rfl rfl, if_congr e1 rfl rfl, if_congr e0 rfl rfl]
  rfl

open Cert.ReferenceIdeal.Stages in
/-- The reference's stages in order are the kernel's result, where no row's regime is a fraction between -1 and 4. -/
theorem stages_eq (x W₁ b₁ W₂ b₂ Wₕ bₕ) (h : ∀ i : Fin 16384, Alpha.NoFraction (x (ix2 i 1023))) :
    alphas (routed (regimes x) (heads (hidden2 (hidden1 x W₁ b₁) W₂ b₂) Wₕ bₕ)) =
      Cert.KernelIdeal.Rows.result x W₁ b₁ W₂ b₂ Wₕ bₕ := by
  funext y
  idx_vars y
  rw [alphas_at, routed_at, regimes_at]
  simp only [heads_at, hidden2_at, hidden1_at]
  exact congrArg Alpha.softplusOne (route_eq (h y0) fun k => Alpha.head _ (fun a b => Wₕ (ix3 k a b)) (fun b => bₕ (ix2 k b)) y1)

/-- The kernel's and the reference's results are equal over the extended reals. -/
theorem algebraic : Cert.algebraic_KernelIdeal_ReferenceIdeal_pre_regime_is_no_fraction := by
  pair_intro
  · run_from Cert.KernelIdeal.Value.run_blocks m g
  · run_from Cert.ReferenceIdeal.Value.run m' g'
    refine (Cert.ReferenceIdeal.Stages.res_eq m' c).trans ?_
    obtain ⟨h0, h1, h2, h3, h4, h5, h6⟩ := hagree c
    rw [h0, h1, h2, h3, h4, h5, h6]
    exact (stages_eq _ _ _ _ _ _ _ fun i => Alpha.noFraction_of_pre _ _ _ _ _ _ _ (hpre c) i).trans
      (Cert.KernelIdeal.Rows.result_eq m c).symm

/-- The reference terminates, leaves its arguments unchanged and every semaphore counter at zero. -/
theorem quiescent_reference : Cert.quiescent_ReferenceIdeal :=
  fun m g _ => θ_run_mono (Cert.ReferenceIdeal.Value.run m g) fun r h =>
    ⟨fun c => (h c).2, sem_eq_zero_of_no_sems (by decide) r.2⟩

/-- Every claim. -/
theorem claim : Cert.Claim :=
  ⟨inferInstance, inferInstance, inferInstance, inferInstance,
    fun m g _ => Cert.Kernel.Gen.frame m g,
    fun m g _ => Cert.KernelIdeal.Gen.frame m g,
    fun m g _ => Cert.KernelIdeal.Gen.frame m g,
    quiescent_reference,
    fun m g _ => quiescent_reference m g trivial,
    trivial, algebraic⟩

end Cert.Proof

end
